-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v142) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S1x1 : Shape := ⟨2, ![1, 1]⟩
abbrev S1024 : Shape := ⟨1, ![1024]⟩
abbrev S1024x1 : Shape := ⟨2, ![1024, 1]⟩
abbrev S1024x1024 : Shape := ⟨2, ![1024, 1024]⟩
abbrev S1024x16 : Shape := ⟨2, ![1024, 16]⟩
abbrev S1x1024x16 : Shape := ⟨3, ![1, 1024, 16]⟩
abbrev S1 : Shape := ⟨1, ![1]⟩
abbrev S1x1x1 : Shape := ⟨3, ![1, 1, 1]⟩
abbrev S1x1024 : Shape := ⟨2, ![1, 1024]⟩
abbrev S_ : Shape := ⟨0, ![]⟩

abbrev nBuf : Space → Nat
  | .hbm => 7
  | .vmem => 4
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1x1, .f32⟩
  | .local _ .vmem, ⟨3, _⟩ => ⟨S1x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1024x17 : Shape := ⟨2, ![1024, 17]⟩
abbrev S1024x16 : Shape := ⟨2, ![1024, 16]⟩
abbrev S1024x16x1 : Shape := ⟨3, ![1024, 16, 1]⟩
abbrev S1024x16x128 : Shape := ⟨3, ![1024, 16, 128]⟩

abbrev nBuf : Space → Nat
  | .hbm => 190
  | .vmem => 0
  | .smem => 0
  | _ => 0

abbrev hbmTy0_0 (i : Nat) : BufTy := match i % 128 with
  | 0 => ⟨S1024x128, .f32⟩
  | 1 => ⟨S1024x128, .f32⟩
  | 2 => ⟨S1024x128, .f32⟩
  | 3 => ⟨S_, .f32⟩
  | 4 => ⟨S1024, .f32⟩
  | 5 => ⟨S_, .f32⟩
  | 6 => ⟨S1024, .f32⟩
  | 7 => ⟨S1024, .f32⟩
  | 8 => ⟨S1024, .f32⟩
  | 9 => ⟨S1024x1, .f32⟩
  | 10 => ⟨S1024x128, .f32⟩
  | 11 => ⟨S1024x128, .f32⟩
  | 12 => ⟨S1024x128, .f32⟩
  | 13 => ⟨S_, .f32⟩
  | 14 => ⟨S1024, .f32⟩
  | 15 => ⟨S_, .f32⟩
  | 16 => ⟨S1024, .f32⟩
  | 17 => ⟨S1024, .f32⟩
  | 18 => ⟨S1024, .f32⟩
  | 19 => ⟨S1024x1, .f32⟩
  | 20 => ⟨S1024x128, .f32⟩
  | 21 => ⟨S1024x128, .f32⟩
  | 22 => ⟨S1024x128, .f32⟩
  | 23 => ⟨S_, .f32⟩
  | 24 => ⟨S1024, .f32⟩
  | 25 => ⟨S_, .f32⟩
  | 26 => ⟨S1024, .f32⟩
  | 27 => ⟨S1024, .f32⟩
  | 28 => ⟨S1024x128, .f32⟩
  | 29 => ⟨S_, .f32⟩
  | 30 => ⟨S1024, .f32⟩
  | 31 => ⟨S_, .f32⟩
  | 32 => ⟨S1024, .f32⟩
  | 33 => ⟨S1024, .f32⟩
  | 34 => ⟨S1024x1024, .i32⟩
  | 35 => ⟨S1024x1024, .i32⟩
  | 36 => ⟨S_, .i32⟩
  | 37 => ⟨S1024x1024, .i32⟩
  | 38 => ⟨S1024x1024, .i32⟩
  | 39 => ⟨S1024x1024, .i1⟩
  | 40 => ⟨S1024x1, .f32⟩
  | 41 => ⟨S1x1024, .f32⟩
  | 42 => ⟨S1024x1024, .f32⟩
  | 43 => ⟨S1024x1024, .f32⟩
  | 44 => ⟨S1024x1024, .f32⟩
  | 45 => ⟨S_, .f32⟩
  | 46 => ⟨S_, .f32⟩
  | 47 => ⟨S1024x1024, .f32⟩
  | 48 => ⟨S1024x1024, .f32⟩
  | 49 => ⟨S1024x1x128, .f32⟩
  | 50 => ⟨S1x1024x128, .f32⟩
  | 51 => ⟨S1024x1024x128, .f32⟩
  | 52 => ⟨S1024x1024x128, .f32⟩
  | 53 => ⟨S1024x1024x128, .f32⟩
  | 54 => ⟨S1024x1024x128, .f32⟩
  | 55 => ⟨S_, .f32⟩
  | 56 => ⟨S1024x1024, .f32⟩
  | 57 => ⟨S1024x1024, .f32⟩
  | 58 => ⟨S_, .f32⟩
  | 59 => ⟨S1024x1024, .f32⟩
  | 60 => ⟨S1024x1024, .f32⟩
  | 61 => ⟨S1024x1024, .f32⟩
  | 62 => ⟨S1024x1024, .f32⟩
  | 63 => ⟨S1024x17, .f32⟩
  | 64 => ⟨S1024x17, .i32⟩
  | 65 => ⟨S1024x16, .i32⟩
  | 66 => ⟨S_, .i32⟩
  | 67 => ⟨S1024x16, .i32⟩
  | 68 => ⟨S1024x16, .i1⟩
  | 69 => ⟨S_, .i32⟩
  | 70 => ⟨S1024x16, .i32⟩
  | 71 => ⟨S1024x16, .i32⟩
  | 72 => ⟨S1024x16, .i32⟩
  | 73 => ⟨S1024x16x1, .i32⟩
  | 74 => ⟨S1024x16x128, .f32⟩
  | 75 => ⟨S_, .i32⟩
  | 76 => ⟨S1024x16, .i32⟩
  | 77 => ⟨S1024x16, .i1⟩
  | 78 => ⟨S_, .i32⟩
  | 79 => ⟨S1024x16, .i32⟩
  | 80 => ⟨S1024x16, .i32⟩
  | 81 => ⟨S1024x16, .i32⟩
  | 82 => ⟨S1024x16x1, .i32⟩
  | 83 => ⟨S1024x16, .f32⟩
  | 84 => ⟨S1024x1x128, .f32⟩
  | 85 => ⟨S1024x16x128, .f32⟩
  | 86 => ⟨S1024x16x128, .f32⟩
  | 87 => ⟨S1024x16x128, .f32⟩
  | 88 => ⟨S_, .f32⟩
  | 89 => ⟨S1024x16, .f32⟩
  | 90 => ⟨S1024x1, .f32⟩
  | 91 => ⟨S1024x16, .f32⟩
  | 92 => ⟨S1024x16, .f32⟩
  | 93 => ⟨S1024x16, .f32⟩
  | 94 => ⟨S_, .f32⟩
  | 95 => ⟨S1024x16, .f32⟩
  | 96 => ⟨S1024x16, .f32⟩
  | 97 => ⟨S1024x16, .f32⟩
  | 98 => ⟨S_, .f32⟩
  | 99 => ⟨S1024x16, .f32⟩
  | 100 => ⟨S1024x16, .f32⟩
  | 101 => ⟨S1024x1x128, .f32⟩
  | 102 => ⟨S1024x16x128, .f32⟩
  | 103 => ⟨S1024x16x128, .f32⟩
  | 104 => ⟨S1024x16x128, .f32⟩
  | 105 => ⟨S_, .f32⟩
  | 106 => ⟨S1024x16, .f32⟩
  | 107 => ⟨S1024x1, .f32⟩
  | 108 => ⟨S1024x16, .f32⟩
  | 109 => ⟨S1024x16, .f32⟩
  | 110 => ⟨S1024x16, .f32⟩
  | 111 => ⟨S_, .f32⟩
  | 112 => ⟨S1024x16, .f32⟩
  | 113 => ⟨S1024x16, .f32⟩
  | 114 => ⟨S1024x16, .f32⟩
  | 115 => ⟨S_, .f32⟩
  | 116 => ⟨S1024x16, .f32⟩
  | 117 => ⟨S1024x16, .f32⟩
  | 118 => ⟨S1024x16, .f32⟩
  | 119 => ⟨S1024x16, .f32⟩
  | 120 => ⟨S_, .f32⟩
  | 121 => ⟨S1024x16, .f32⟩
  | 122 => ⟨S1024x16, .f32⟩
  | 123 => ⟨S_, .f32⟩
  | 124 => ⟨S1024x16, .f32⟩
  | 125 => ⟨S1024x16, .i1⟩
  | 126 => ⟨S_, .f32⟩
  | 127 => ⟨S1024x16, .f32⟩
  | _ => ⟨S1024x128, .f32⟩

abbrev hbmTy0_1 (i : Nat) : BufTy := match i % 128 with
  | 0 => ⟨S1024x16, .f32⟩
  | 1 => ⟨S_, .f32⟩
  | 2 => ⟨S_, .f32⟩
  | 3 => ⟨S1024x128, .f32⟩
  | 4 => ⟨S1024x128, .f32⟩
  | 5 => ⟨S_, .f32⟩
  | 6 => ⟨S1024, .f32⟩
  | 7 => ⟨S_, .f32⟩
  | 8 => ⟨S1024, .f32⟩
  | 9 => ⟨S1024, .f32⟩
  | 10 => ⟨S1024, .f32⟩
  | 11 => ⟨S_, .f32⟩
  | 12 => ⟨S1024, .f32⟩
  | 13 => ⟨S1024, .f32⟩
  | 14 => ⟨S1024x1, .i32⟩
  | 15 => ⟨S1024, .i32⟩
  | 16 => ⟨S_, .i32⟩
  | 17 => ⟨S1024, .i32⟩
  | 18 => ⟨S1024, .i1⟩
  | 19 => ⟨S_, .i32⟩
  | 20 => ⟨S1024, .i32⟩
  | 21 => ⟨S1024, .i32⟩
  | 22 => ⟨S1024, .i32⟩
  | 23 => ⟨S1024x1, .i32⟩
  | 24 => ⟨S1024x128, .f32⟩
  | 25 => ⟨S1024x1, .i32⟩
  | 26 => ⟨S1024, .i32⟩
  | 27 => ⟨S_, .i32⟩
  | 28 => ⟨S1024, .i32⟩
  | 29 => ⟨S1024, .i1⟩
  | 30 => ⟨S_, .i32⟩
  | 31 => ⟨S1024, .i32⟩
  | 32 => ⟨S1024, .i32⟩
  | 33 => ⟨S1024, .i32⟩
  | 34 => ⟨S1024x1, .i32⟩
  | 35 => ⟨S1024, .f32⟩
  | 36 => ⟨S1024x128, .f32⟩
  | 37 => ⟨S1024x128, .f32⟩
  | 38 => ⟨S_, .f32⟩
  | 39 => ⟨S1024, .f32⟩
  | 40 => ⟨S1024, .f32⟩
  | 41 => ⟨S1024, .f32⟩
  | 42 => ⟨S_, .f32⟩
  | 43 => ⟨S1024, .f32⟩
  | 44 => ⟨S1024, .f32⟩
  | 45 => ⟨S1024, .f32⟩
  | 46 => ⟨S_, .f32⟩
  | 47 => ⟨S1024, .f32⟩
  | 48 => ⟨S1024, .f32⟩
  | 49 => ⟨S_, .f32⟩
  | 50 => ⟨S1024, .f32⟩
  | 51 => ⟨S1024, .f32⟩
  | 52 => ⟨S1024, .f32⟩
  | 53 => ⟨S_, .f32⟩
  | 54 => ⟨S1024, .f32⟩
  | 55 => ⟨S1024, .i1⟩
  | 56 => ⟨S_, .f32⟩
  | 57 => ⟨S1024, .f32⟩
  | 58 => ⟨S1024, .f32⟩
  | 59 => ⟨S_, .f32⟩
  | 60 => ⟨S_, .f32⟩
  | 61 => ⟨S_, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_call0_v0 : Ref sig .tc := ⟨.hbm, 46, rfl⟩
abbrev main_call0_v1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_values : Ref sig .tc := ⟨.hbm, 63, rfl⟩
abbrev main_indices : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_c_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_17 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_18 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_19 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_20 : Ref sig .tc := ⟨.hbm, 120, rfl⟩
abbrev main_v92 : Ref sig .tc := ⟨.hbm, 121, rfl⟩
abbrev main_v93 : Ref sig .tc := ⟨.hbm, 122, rfl⟩
abbrev main_cst_21 : Ref sig .tc := ⟨.hbm, 123, rfl⟩
abbrev main_v94 : Ref sig .tc := ⟨.hbm, 124, rfl⟩
abbrev main_v95 : Ref sig .tc := ⟨.hbm, 125, rfl⟩
abbrev main_cst_22 : Ref sig .tc := ⟨.hbm, 126, rfl⟩
abbrev main_v96 : Ref sig .tc := ⟨.hbm, 127, rfl⟩
abbrev main_v97 : Ref sig .tc := ⟨.hbm, 128, rfl⟩
abbrev main_cst_23 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_24 : Ref sig .tc := ⟨.hbm, 133, rfl⟩
abbrev main_v101 : Ref sig .tc := ⟨.hbm, 134, rfl⟩
abbrev main_cst_25 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_26 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_27 : Ref sig .tc := ⟨.hbm, 144, rfl⟩
abbrev main_v109 : Ref sig .tc := ⟨.hbm, 145, rfl⟩
abbrev main_v110 : Ref sig .tc := ⟨.hbm, 146, rfl⟩
abbrev main_c_28 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_29 : Ref sig .tc := ⟨.hbm, 155, rfl⟩
abbrev main_v118 : Ref sig .tc := ⟨.hbm, 156, rfl⟩
abbrev main_v119 : Ref sig .tc := ⟨.hbm, 157, rfl⟩
abbrev main_c_30 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_31 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_32 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_33 : Ref sig .tc := ⟨.hbm, 174, rfl⟩
abbrev main_v133 : Ref sig .tc := ⟨.hbm, 175, rfl⟩
abbrev main_v134 : Ref sig .tc := ⟨.hbm, 176, rfl⟩
abbrev main_cst_34 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_35 : Ref sig .tc := ⟨.hbm, 181, rfl⟩
abbrev main_v138 : Ref sig .tc := ⟨.hbm, 182, rfl⟩
abbrev main_v139 : Ref sig .tc := ⟨.hbm, 183, rfl⟩
abbrev main_cst_36 : Ref sig .tc := ⟨.hbm, 184, rfl⟩
abbrev main_v140 : Ref sig .tc := ⟨.hbm, 185, rfl⟩
abbrev main_v141 : Ref sig .tc := ⟨.hbm, 186, rfl⟩
abbrev main_cst_37 : Ref sig .tc := ⟨.hbm, 187, rfl⟩
abbrev main_v142 : Ref sig .tc := ⟨.hbm, 188, rfl⟩
abbrev main_v143 : Ref sig .tc := ⟨.hbm, 189, rfl⟩

abbrev nD : Nat := 1
abbrev τ : Topo := Topo.v7x

variable {F : FTy → Type} [FloatOps F]
-- ==== Proof.Rounds.lean ====
/- The kernel body's sixteen rounds written as one step repeated: each round takes every row's minimum, the first column
   that reaches it, and replaces that entry by a sentinel. -/
module

public import proofs.«01_k».proof.Proof.Gen.KernelIdeal.Frame

@[expose] public section

noncomputable section

namespace Cert.KernelIdeal.Rounds

open Cert.KernelIdeal Cert.KernelIdeal.Gen Idealize.ShloMosaic

variable {F : FTy → Type} [FloatOps F]

/-- The column number of every entry. -/
def cols : IVec S1024x1024 32 := iota .tc S1024x1024 32 [1] iota_S1024x1024_d1_w32

/-- Each row's minimum. -/
def rowMin (d : FVec F S1024x1024 .f32) : FVec F S1024 .f32 :=
  multiReduction .minimumf [1] S1024 d 0x7F800000#32 reduces_S1024x1024_S1024 (.inl rfl) rfl

/-- A row vector's entry in every column of its row. -/
def alongRow {α : Type} (v : S1024.Idx → α) : S1024x1024.Idx → α :=
  broadcastTo S1024x1024 (shapeCast S1024x1 v shapeCasts_S1024_S1024x1) broadcasts_S1024x1_S1024x1024

/-- The column number where an entry is at most its row's minimum, 1025 elsewhere. -/
def cand (d : FVec F S1024x1024 .f32) : IVec S1024x1024 32 :=
  select (cmpf .ole d (alongRow (rowMin d))) cols (broadcast S1024x1024 1025#32)

/-- Each row's first column at its minimum. -/
def pick (d : FVec F S1024x1024 .f32) : IVec S1024 32 :=
  multiReductionI .minsi [1] S1024 (cand d) 2147483647#32 reduces_S1024x1024_S1024 rfl

/-- The picked entries. -/
def hot (d : FVec F S1024x1024 .f32) : IVec S1024x1024 1 := cmpi .eq cols (alongRow (pick d))

/-- The matrix with the picked entries set to the large sentinel. -/
def mask (d : FVec F S1024x1024 .f32) : FVec F S1024x1024 .f32 :=
  select (hot d) (broadcast S1024x1024 (Scalar.ofBits .f32 0x7F61B1E6#32)) d

/-- The entry of `c` at each row's picked column, as the sum of the row with every other entry at zero. -/
def taken (c d : FVec F S1024x1024 .f32) : FVec F S1024 .f32 :=
  multiReduction .add [1] S1024 (select (hot d) c (broadcast S1024x1024 (Scalar.ofBits .f32 0x00000000#32))) 0x00000000#32
    reduces_S1024x1024_S1024 (.inl rfl) rfl

/-- The matrix after `n` rounds. -/
def after (d : FVec F S1024x1024 .f32) : ℕ → FVec F S1024x1024 .f32
  | 0 => d
  | n + 1 => mask (after d n)

/-- Sixteen row vectors as the columns of one array. -/
def stack (f : ℕ → FVec F S1024 .f32) : FVec F S1024x16 .f32 :=
  concatenate S1024x16 1 [⟨S1024x1, shapeCast S1024x1 (f 0) shapeCasts_S1024_S1024x1⟩, ⟨S1024x1, shapeCast S1024x1 (f 1) shapeCasts_S1024_S1024x1⟩,
    ⟨S1024x1, shapeCast S1024x1 (f 2) shapeCasts_S1024_S1024x1⟩, ⟨S1024x1, shapeCast S1024x1 (f 3) shapeCasts_S1024_S1024x1⟩,
    ⟨S1024x1, shapeCast S1024x1 (f 4) shapeCasts_S1024_S1024x1⟩, ⟨S1024x1, shapeCast S1024x1 (f 5) shapeCasts_S1024_S1024x1⟩,
    ⟨S1024x1, shapeCast S1024x1 (f 6) shapeCasts_S1024_S1024x1⟩, ⟨S1024x1, shapeCast S1024x1 (f 7) shapeCasts_S1024_S1024x1⟩,
    ⟨S1024x1, shapeCast S1024x1 (f 8) shapeCasts_S1024_S1024x1⟩, ⟨S1024x1, shapeCast S1024x1 (f 9) shapeCasts_S1024_S1024x1⟩,
    ⟨S1024x1, shapeCast S1024x1 (f 10) shapeCasts_S1024_S1024x1⟩, ⟨S1024x1, shapeCast S1024x1 (f 11) shapeCasts_S1024_S1024x1⟩,
    ⟨S1024x1, shapeCast S1024x1 (f 12) shapeCasts_S1024_S1024x1⟩, ⟨S1024x1, shapeCast S1024x1 (f 13) shapeCasts_S1024_S1024x1⟩,
    ⟨S1024x1, shapeCast S1024x1 (f 14) shapeCasts_S1024_S1024x1⟩, ⟨S1024x1, shapeCast S1024x1 (f 15) shapeCasts_S1024_S1024x1⟩]
    concatenates_S1024x1_S1024x1_S1024x1_S1024x1_S1024x1_S1024x1_S1024x1_S1024x1_S1024x1_S1024x1_S1024x1_S1024x1_S1024x1_S1024x1_S1024x1_S1024x1_S1024x16_d1

variable (x0 x1 : Vec F S1024x128 .f32)

/-- The masked distances the rounds start from. -/
def dist : FVec F S1024x1024 .f32 := k0_pay6 (View.ld x0 r0_0)

/-- The products of the second array's rows with the first's. -/
def prod : FVec F S1024x1024 .f32 := k0_pay5 (View.ld x0 r0_0) (View.ld x1 r0_0)

/-- The sixteen minima the kernel stacks are the rounds' row minima. -/
theorem minima_eq :
    k0_pay72 (k0_pay80 x0 x1) (k0_pay82 x0 x1) (k0_pay83 x0 x1) (k0_pay85 x0 x1) (k0_pay87 x0 x1) (k0_pay88 x0 x1) (k0_pay90 x0 x1)
      (k0_pay92 x0 x1) (k0_pay93 x0 x1) (k0_pay95 x0 x1) (k0_pay96 x0 x1) (k0_pay98 x0 x1) (k0_pay101 x0 x1) (k0_pay102 x0 x1)
      (k0_pay103 x0 x1) (k0_pay104 x0 x1) (k0_pay105 x0 x1)
    = stack fun n => rowMin (after (dist x0) n) := by
  rfl

/-- The sixteen products the kernel stacks are those the rounds take. -/
theorem products_eq :
    k0_pay73 (k0_pay78 x0 x1) (k0_pay77 x0 x1) (k0_pay10 (k0_pay78 x0 x1) (k0_pay77 x0 x1) (k0_pay81 x0 x1)) (k0_pay14 (k0_pay78 x0 x1) (k0_pay77 x0 x1) (k0_pay79 x0 x1) (k0_pay81 x0 x1)) (k0_pay18 (k0_pay78 x0 x1) (k0_pay77 x0 x1) (k0_pay79 x0 x1) (k0_pay81 x0 x1)) (k0_pay23 (k0_pay78 x0 x1) (k0_pay77 x0 x1) (k0_pay86 x0 x1)) (k0_pay27 (k0_pay78 x0 x1) (k0_pay77 x0 x1) (k0_pay84 x0 x1) (k0_pay86 x0 x1)) (k0_pay31 (k0_pay78 x0 x1) (k0_pay77 x0 x1) (k0_pay84 x0 x1) (k0_pay86 x0 x1)) (k0_pay36 (k0_pay78 x0 x1) (k0_pay77 x0 x1) (k0_pay91 x0 x1)) (k0_pay40 (k0_pay78 x0 x1) (k0_pay77 x0 x1) (k0_pay89 x0 x1) (k0_pay91 x0 x1)) (k0_pay44 (k0_pay78 x0 x1) (k0_pay77 x0 x1) (k0_pay89 x0 x1) (k0_pay91 x0 x1)) (k0_pay48 (k0_pay78 x0 x1) (k0_pay77 x0 x1) (k0_pay94 x0 x1) (k0_pay95 x0 x1)) (k0_pay52 (k0_pay78 x0 x1) (k0_pay77 x0 x1) (k0_pay94 x0 x1) (k0_pay95 x0 x1)) (k0_pay56 (k0_pay78 x0 x1) (k0_pay77 x0 x1) (k0_pay94 x0 x1) (k0_pay95 x0 x1)) (k0_pay61 (k0_pay78 x0 x1) (k0_pay77 x0 x1) (k0_pay97 x0 x1) (k0_pay99 x0 x1) (k0_pay100 x0 x1)) (k0_pay65 (k0_pay78 x0 x1) (k0_pay77 x0 x1) (k0_pay97 x0 x1) (k0_pay99 x0 x1) (k0_pay100 x0 x1)) (k0_pay103 x0 x1) (k0_pay105 x0 x1) (k0_pay69 (k0_pay78 x0 x1) (k0_pay77 x0 x1) (k0_pay97 x0 x1) (k0_pay99 x0 x1) (k0_pay100 x0 x1))
    = stack fun n => taken (prod x0 x1) (after (dist x0) n) := by
  rfl

end Cert.KernelIdeal.Rounds
-- ==== Proof.RowMath.lean ====
/- A row divided by the root of its squared length plus 1e-12 is a row of real numbers of squared length below 1, whatever
   the row was. For two such rows the inner-product form of the squared distance is the sum of squared differences
   plus what each row's squared length lacks to 1. Nothing here is about a program. -/
module

public import Idealize.ShloMosaic.PureOps.Ideal.Laws

@[expose] public section

namespace Cert.RowMath

open Idealize.ShloMosaic

/-- The small constant both programs add under a root. -/
noncomputable abbrev eps : EReal := Ideal.ofBits .f32 0x2B8CBCCC#32
/-- The constant two. -/
noncomputable abbrev two : EReal := Ideal.ofBits .f32 0x40000000#32
/-- The sentinel that stands for a distance out of the running. -/
noncomputable abbrev big : EReal := Ideal.ofBits .f32 0x7F61B1E6#32

/-- The small constant as a real number. -/
noncomputable def epsR : ℝ := 9223372 / 2 ^ 63

/-- The small constant is a real number. -/
theorem eps_eq : eps = ((epsR : ℝ) : EReal) := by
  simp [eps, epsR, Ideal.ofBits, Ideal.ieee, -EReal.coe_mul]; norm_num

/-- The small constant is positive. -/
theorem epsR_pos : 0 < epsR := by unfold epsR; norm_num

/-- The small constant is below 1. -/
theorem epsR_lt : epsR < 1 := by unfold epsR; norm_num

/-- The constant two is 2. -/
theorem two_eq : two = ((2 : ℝ) : EReal) := by
  simp [two, Ideal.ofBits, Ideal.ieee, -EReal.coe_mul]; norm_num

/-- The sentinel is a real number above 3. -/
theorem lt_big : ((3 : ℝ) : EReal) < big := by
  have h : big = ((14791142 * 2 ^ 104 : ℝ) : EReal) := by
    simp [big, Ideal.ofBits, Ideal.ieee, -EReal.coe_mul]
  rw [h, EReal.coe_lt_coe_iff]; norm_num

/-- A sum of real numbers, taken among the extended reals, is the real sum. -/
theorem sum_coe {n : ℕ} (r : Fin n → ℝ) : ∑ k, ((r k : ℝ) : EReal) = ((∑ k, r k : ℝ) : EReal) := by
  induction n with
  | zero => simp
  | succ n ih => rw [Fin.sum_univ_succ, Fin.sum_univ_succ, ih, EReal.coe_add]

/-- The root of a real number that is not negative is the real root. -/
theorem sqrt_coe {r : ℝ} (h : 0 ≤ r) : Ideal.sqrt ((r : ℝ) : EReal) = ((Real.sqrt r : ℝ) : EReal) := by
  rw [Ideal.sqrt_coe, if_neg (not_lt.mpr h)]

/-- A row divided by the root of its squared length plus the small constant. -/
noncomputable def unit {n : ℕ} (x : Fin n → EReal) (l : Fin n) : EReal :=
  Ideal.div (x l) (Ideal.sqrt (∑ k, x k * x k + eps))

/-- A row of real numbers of squared length below 1. -/
def Short {n : ℕ} (u : Fin n → EReal) : Prop := ∃ r : Fin n → ℝ, (∀ l, u l = ((r l : ℝ) : EReal)) ∧ ∑ l, r l * r l < 1

/-- An extended real times itself is not negative. -/
theorem mul_self_nonneg' (x : EReal) : 0 ≤ x * x := by
  induction x with
  | bot => simp
  | top => simp
  | coe r => rw [← EReal.coe_mul]; exact EReal.coe_nonneg.mpr (mul_self_nonneg r)

/-- Every normalised row is real and of squared length below 1. -/
theorem short_unit {n : ℕ} (x : Fin n → EReal) : Short (unit x) := by
  by_cases hreal : ∀ k, ∃ r : ℝ, x k = ((r : ℝ) : EReal)
  · choose r hr using hreal
    have hS0 : 0 ≤ ∑ k, r k * r k := Finset.sum_nonneg fun k _ => mul_self_nonneg (r k)
    have hs : 0 < ∑ k, r k * r k + epsR := by have := epsR_pos; linarith
    have hq : 0 < Real.sqrt (∑ k, r k * r k + epsR) := Real.sqrt_pos.mpr hs
    have hden : Ideal.sqrt (∑ k, x k * x k + eps) = ((Real.sqrt (∑ k, r k * r k + epsR) : ℝ) : EReal) := by
      have e : ∑ k, x k * x k = ((∑ k, r k * r k : ℝ) : EReal) := by
        rw [← sum_coe]
        exact Finset.sum_congr rfl fun k _ => by rw [hr, EReal.coe_mul]
      rw [e, eps_eq, ← EReal.coe_add, sqrt_coe hs.le]
    refine ⟨fun l => r l * (Real.sqrt (∑ k, r k * r k + epsR))⁻¹, fun l => ?_, ?_⟩
    · have hne : ((Real.sqrt (∑ k, r k * r k + epsR) : ℝ) : EReal) ≠ 0 := fun h => hq.ne' (EReal.coe_eq_zero.mp h)
      rw [unit, hden, Ideal.div, if_neg hne, hr, EReal.coe_mul, EReal.coe_inv]
    · have e : ∀ l, r l * (Real.sqrt (∑ k, r k * r k + epsR))⁻¹ * (r l * (Real.sqrt (∑ k, r k * r k + epsR))⁻¹)
          = r l * r l * (∑ k, r k * r k + epsR)⁻¹ := fun l => by
        rw [mul_mul_mul_comm, ← mul_inv, Real.mul_self_sqrt hs.le]
      rw [Finset.sum_congr rfl fun l _ => e l, ← Finset.sum_mul, ← div_eq_mul_inv, div_lt_one hs]
      linarith [epsR_pos]
  · push Not at hreal
    obtain ⟨k, hk⟩ := hreal
    have htop : x k * x k = ⊤ := by
      induction hx : x k with
      | bot => rfl
      | top => rfl
      | coe r => exact absurd hx (hk r)
    have hS : ∑ k, x k * x k = ⊤ :=
      top_le_iff.mp (htop ▸ Finset.single_le_sum (f := fun k => x k * x k) (fun j _ => mul_self_nonneg' (x j)) (Finset.mem_univ k))
    refine ⟨fun _ => 0, fun l => ?_, by simp⟩
    rw [unit, hS, eps_eq, EReal.top_add_coe, Ideal.sqrt_top, Ideal.div, if_neg (by simp), EReal.inv_top, mul_zero, EReal.coe_zero]

/-- The squared distance of two rows, written with their inner product as for rows of length 1. -/
noncomputable def apart {n : ℕ} (u v : Fin n → EReal) : EReal := max (two - two * ∑ k, u k * v k) 0

/-- The squared distance of two rows, written as the sum of squared differences plus what each squared length lacks to 1. -/
noncomputable def split {n : ℕ} (u v : Fin n → EReal) : EReal :=
  ∑ k, (u k - v k) * (u k - v k) + ((1 - ∑ k, u k * u k) + (1 - ∑ k, v k * v k))

section
variable {n : ℕ} {u v : Fin n → EReal}

/-- For two short rows the two forms are one real number between 0 and 4, neither end included. -/
theorem apart_split (hu : Short u) (hv : Short v) : ∃ d : ℝ, 0 < d ∧ d < 4 ∧ apart u v = d ∧ split u v = d := by
  obtain ⟨r, hr, hr1⟩ := hu
  obtain ⟨q, hq, hq1⟩ := hv
  have e1 : ∑ k, (r k - q k) * (r k - q k) = ∑ k, r k * r k + ∑ k, q k * q k - 2 * ∑ k, r k * q k := by
    rw [Finset.mul_sum, ← Finset.sum_add_distrib, ← Finset.sum_sub_distrib]
    exact Finset.sum_congr rfl fun k _ => by ring
  have e2 : ∑ k, (r k + q k) * (r k + q k) = ∑ k, r k * r k + ∑ k, q k * q k + 2 * ∑ k, r k * q k := by
    rw [Finset.mul_sum, ← Finset.sum_add_distrib, ← Finset.sum_add_distrib]
    exact Finset.sum_congr rfl fun k _ => by ring
  have n1 : 0 ≤ ∑ k, (r k - q k) * (r k - q k) := Finset.sum_nonneg fun k _ => mul_self_nonneg _
  have n2 : 0 ≤ ∑ k, (r k + q k) * (r k + q k) := Finset.sum_nonneg fun k _ => mul_self_nonneg _
  refine ⟨2 - 2 * ∑ k, r k * q k, by linarith, by linarith, ?_, ?_⟩
  · rw [apart]
    simp only [hr, hq, two_eq, ← EReal.coe_mul, sum_coe, ← EReal.coe_sub]
    exact max_eq_left (EReal.coe_nonneg.mpr (by linarith))
  · rw [split]
    rw [← EReal.coe_one]
    simp only [hr, hq, ← EReal.coe_mul, sum_coe, ← EReal.coe_sub, ← EReal.coe_add]
    rw [e1]
    congr 1
    ring

/-- The two forms of the squared distance agree on short rows. -/
theorem apart_eq_split (hu : Short u) (hv : Short v) : apart u v = split u v := by
  obtain ⟨d, _, _, h1, h2⟩ := apart_split hu hv
  rw [h1, h2]

/-- The distance of a short row from itself, without the two corrections, is the root of the small constant. -/
theorem self_eq (hu : Short u) : Ideal.sqrt (∑ k, (u k - u k) * (u k - u k) + 0 + eps) = ((Real.sqrt epsR : ℝ) : EReal) := by
  obtain ⟨r, hr, _⟩ := hu
  have e : ∑ k, (u k - u k) * (u k - u k) = 0 := Finset.sum_eq_zero fun k _ => by
    rw [hr, ← EReal.coe_sub, sub_self, EReal.coe_zero, mul_zero]
  rw [e, add_zero, zero_add, eps_eq, sqrt_coe epsR_pos.le]

/-- A short row is strictly nearer to itself than to any short row. -/
theorem self_lt (hu : Short u) (hv : Short v) :
    Ideal.sqrt (∑ k, (u k - u k) * (u k - u k) + 0 + eps) < Ideal.sqrt (split u v + eps) := by
  obtain ⟨d, h0, _, _, h2⟩ := apart_split hu hv
  have hp := epsR_pos
  rw [self_eq hu, h2, eps_eq, ← EReal.coe_add, sqrt_coe (by linarith), EReal.coe_lt_coe_iff]
  exact Real.sqrt_lt_sqrt hp.le (by linarith)

/-- A distance of two short rows is below the sentinel. -/
theorem split_lt_big (hu : Short u) (hv : Short v) : Ideal.sqrt (split u v + eps) < big := by
  obtain ⟨d, h0, h4, _, h2⟩ := apart_split hu hv
  have hp := epsR_pos
  rw [h2, eps_eq, ← EReal.coe_add, sqrt_coe (by linarith)]
  refine lt_trans (EReal.coe_lt_coe_iff.mpr ?_) lt_big
  rw [Real.sqrt_lt' (by norm_num)]
  linarith [epsR_lt]

/-- So is a short row's distance from itself. -/
theorem self_lt_big (hu : Short u) : Ideal.sqrt (∑ k, (u k - u k) * (u k - u k) + 0 + eps) < big := by
  have h : Short (fun k => u k) := hu
  exact lt_trans (self_lt hu h) (split_lt_big hu h)

end

end Cert.RowMath
-- ==== Proof.Choice.lean ====
/- Taking the smallest value again and again, each time setting the one taken (the lowest position among equals) to a
   sentinel above every value, takes the positions in the order in which a stable sort lists them. Nothing here is about
   a program. -/
module

public import Idealize.ShloMosaic.Lib.SortPrefix

@[expose] public section

namespace Cert.Choice

open Idealize.ShloMosaic

variable {N : ℕ} {α : Type} [LinearOrder α]

/-- `p` is the lowest of the positions at which `f` is smallest. -/
def IsFirstMin (f : Fin N → α) (p : Fin N) : Prop := (∀ j, f p ≤ f j) ∧ ∀ j, j < p → f p < f j

/-- A function on a nonempty range of positions is smallest at some position, and one of these is the lowest. -/
theorem exists_isFirstMin [NeZero N] (f : Fin N → α) : ∃ p, IsFirstMin f p := by
  obtain ⟨q, _, hq⟩ := Finset.exists_min_image Finset.univ f ⟨0, Finset.mem_univ 0⟩
  obtain ⟨p, hp, hlow⟩ := (wellFounded_lt (α := Fin N)).has_min {j | f j ≤ f q} ⟨q, le_refl _⟩
  refine ⟨p, fun j => le_trans hp (hq j (Finset.mem_univ j)), fun j hj => ?_⟩
  by_contra hc
  exact hlow j (le_trans (not_lt.mp hc) hp) hj

/-- The lowest of the positions at which `f` is smallest. -/
noncomputable def firstMin [NeZero N] (f : Fin N → α) : Fin N := (exists_isFirstMin f).choose

/-- `firstMin f` is what its name says. -/
theorem firstMin_spec [NeZero N] (f : Fin N → α) : IsFirstMin f (firstMin f) := (exists_isFirstMin f).choose_spec

/-- The values after `n` rounds, each of which sets the lowest position of a smallest value to `B`. -/
noncomputable def left [NeZero N] (B : α) (f : Fin N → α) : ℕ → Fin N → α
  | 0 => f
  | n + 1 => fun j => if j = firstMin (left B f n) then B else left B f n j

/-- Key, then position: the strict order in which the sort lists positions. -/
def before (key : Fin N → α) (k k' : Fin N) : Bool :=
  decide (key k < key k') || (decide (key k = key k') && decide (k < k'))

/-- Key, then position, orders any two different positions one way. -/
theorem before_total (key : Fin N → α) : StrictTotalBefore (before key) :=
  StrictTotalBefore.of_key_then_position (fun a b => decide (a < b)) key (by simp)
    (fun a b c => by simpa using lt_trans) fun a b => by simpa using lt_trichotomy a b

/-- Two orders that agree on every later position against every earlier one sort a list alike: the stable insertion
    compares no other pairs. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    rw [stableSort, stableSort, ih h.2]
    exact insertBefore_congr R R' a _ fun b hb => h.1 b ((perm_stableSort R' l).mem_iff.mp hb)

/-- The stable sort by the key alone is the sort by key, then position. -/
theorem sortedFrom_key (key : Fin N → α) :
    sortedFrom (fun k k' => decide (key k < key k')) = sortedFrom (before key) := by
  funext k
  have e : sortPositions N (fun k k' => decide (key k < key k')) = sortPositions N (before key) := by
    refine stableSort_congr_later _ _ _ ((List.pairwise_lt_finRange N).imp fun {a b} hab => ?_)
    simp [before, not_lt.mpr hab.le]
  unfold sortedFrom
  rw [List.get_of_eq e]
  rfl

/-- A run of rounds over the values `key`, all below the sentinel `B`: round 0 starts with position `i` at the sentinel;
    round `n` takes `p n`, the lowest position of a smallest value, and sets it to the sentinel. -/
structure Rounds (key : Fin N → α) (i : Fin N) (B : α) (f : ℕ → Fin N → α) (p : ℕ → Fin N) : Prop where
  below : ∀ j, key j < B
  start : ∀ j, f 0 j = if j = i then B else key j
  step : ∀ n j, f (n + 1) j = if j = p n then B else f n j
  first : ∀ n, IsFirstMin (f n) (p n)

/-- The rounds that start from `key` with position `i` at the sentinel are such a run. -/
theorem rounds_left [NeZero N] (key : Fin N → α) (i : Fin N) (B : α) (hB : ∀ j, key j < B) :
    Rounds key i B (left B fun j => if j = i then B else key j)
      (fun n => firstMin (left B (fun j => if j = i then B else key j) n)) :=
  ⟨hB, fun _ => rfl, fun _ _ => rfl, fun _ => firstMin_spec _⟩

namespace Rounds

variable {key : Fin N → α} {i : Fin N} {B : α} {f : ℕ → Fin N → α} {p : ℕ → Fin N} (h : Rounds key i B f p)
include h

/-- After `n` rounds a position not taken (and not `i`) still has its value. -/
theorem value_of_free (n : ℕ) (j : Fin N) (hi : j ≠ i) (hj : ∀ m < n, p m ≠ j) : f n j = key j := by
  induction n with
  | zero => rw [h.start, if_neg hi]
  | succ n ih =>
    rw [h.step, if_neg (fun e => hj n n.lt_succ_self e.symm), ih fun m hm => hj m (hm.trans n.lt_succ_self)]

/-- A position taken stays at the sentinel. -/
theorem value_of_taken (n : ℕ) (j : Fin N) (hj : j = i ∨ ∃ m < n, p m = j) : f n j = B := by
  induction n with
  | zero =>
    rcases hj with hj | ⟨m, hm, _⟩
    · rw [h.start, if_pos hj]
    · exact absurd hm (Nat.not_lt_zero m)
  | succ n ih =>
    rw [h.step]
    split
    · rfl
    · rename_i hne
      refine ih (hj.imp_right fun ⟨m, hm, e⟩ => ⟨m, ?_, e⟩)
      rcases Nat.lt_succ_iff_lt_or_eq.mp hm with hlt | rfl
      · exact hlt
      · exact absurd e.symm hne

/-- While fewer positions are gone than there are, some position is free. -/
theorem exists_free (n : ℕ) (hn : n + 1 < N) : ∃ j, j ≠ i ∧ ∀ m < n, p m ≠ j := by
  classical
  have hc : (insert i ((Finset.range n).image p)).card < (Finset.univ : Finset (Fin N)).card := by
    rw [Finset.card_univ, Fintype.card_fin]
    refine lt_of_le_of_lt ((Finset.card_insert_le _ _).trans (Nat.add_le_add_right Finset.card_image_le 1)) ?_
    rwa [Finset.card_range]
  obtain ⟨j, _, hj⟩ := Finset.exists_mem_notMem_of_card_lt_card hc
  rw [Finset.mem_insert, Finset.mem_image, not_or] at hj
  exact ⟨j, hj.1, fun m hm e => hj.2 ⟨m, Finset.mem_range.mpr hm, e⟩⟩

/-- Round `n` takes a position that was free. -/
theorem free (n : ℕ) (hn : n + 1 < N) : p n ≠ i ∧ ∀ m < n, p m ≠ p n := by
  obtain ⟨j, hji, hj⟩ := h.exists_free n hn
  by_contra hc
  have ht : p n = i ∨ ∃ m < n, p m = p n := by
    by_contra hc'
    rw [not_or] at hc'
    exact hc ⟨hc'.1, fun m hm e => hc'.2 ⟨m, hm, e⟩⟩
  have h1 := (h.first n).1 j
  rw [h.value_of_taken n _ ht, h.value_of_free n j hji hj] at h1
  exact absurd (h.below j) (not_lt.mpr h1)

/-- The value round `n` takes is that position's own. -/
theorem taken_value (n : ℕ) (hn : n + 1 < N) : f n (p n) = key (p n) :=
  h.value_of_free n _ (h.free n hn).1 (h.free n hn).2

/-- No position that is free at round `n` comes before the one it takes. -/
theorem not_before (n : ℕ) (hn : n + 1 < N) (q : Fin N) (hi : q ≠ i) (hq : ∀ m < n, p m ≠ q) : before key q (p n) = false := by
  have hle := (h.first n).1 q
  have hlt := (h.first n).2 q
  rw [h.taken_value n hn, h.value_of_free n q hi hq] at hle hlt
  simp only [before, Bool.or_eq_false_iff, Bool.and_eq_false_iff, decide_eq_false_iff_not]
  refine ⟨not_lt.mpr hle, ?_⟩
  by_cases hqp : q < p n
  · exact Or.inl (ne_of_gt (hlt hqp))
  · exact Or.inr hqp

/-- If `i`'s own value is strictly the smallest, the stable sort lists `i` first and then what the rounds take, in order. -/
theorem sortedFrom_eq (hself : ∀ j, j ≠ i → key i < key j) (K : ℕ) (hK : K + 1 ≤ N) (n : Fin K) :
    sortedFrom (fun k k' => decide (key k < key k')) (n.succ.castLE hK) = p n := by
  rw [sortedFrom_key]
  have hfree : ∀ n : Fin K, n.val + 1 < N := fun n => by omega
  have hfirst : ∀ q, before key q i = false := fun q => by
    by_cases hq : q = i
    · subst hq; simp [before]
    · have := hself q hq
      simp [before, not_lt.mpr this.le, ne_of_gt this]
  have key_step := StrictTotalBefore.sortedFrom_eq_of_prefix (before_total key) hK
    (Fin.cons i fun n : Fin K => p n) ?_ ?_ ?_ n.succ
  · rw [key_step, Fin.cons_succ]
  · intro a b hab
    induction a using Fin.cases with
    | zero =>
      induction b using Fin.cases with
      | zero => rfl
      | succ b => exact absurd hab.symm (h.free b (hfree b)).1
    | succ a =>
      induction b using Fin.cases with
      | zero => exact absurd hab (h.free a (hfree a)).1
      | succ b =>
        rw [Fin.cons_succ, Fin.cons_succ] at hab
        rcases lt_trichotomy a.val b.val with hlt | he | hlt
        · exact absurd hab ((h.free b (hfree b)).2 a hlt)
        · rw [Fin.ext he]
        · exact absurd hab.symm ((h.free a (hfree a)).2 b hlt)
  · intro a b hab
    induction a using Fin.cases with
    | zero => exact hfirst _
    | succ a =>
      induction b using Fin.cases with
      | zero => exact absurd hab (Nat.not_lt_zero _)
      | succ b =>
        rw [Fin.cons_succ, Fin.cons_succ]
        have hab' : a.val < b.val := Fin.succ_lt_succ_iff.mp hab
        exact h.not_before a (hfree a) _ (h.free b (hfree b)).1 fun m hm => (h.free b (hfree b)).2 m (hm.trans hab')
  · intro a q hq
    induction a using Fin.cases with
    | zero => exact hfirst _
    | succ a =>
      rw [Fin.cons_succ]
      refine h.not_before a (hfree a) q (fun e => hq 0 (by rw [Fin.cons_zero, e])) fun m hm e => ?_
      exact hq (Fin.succ ⟨m, hm.trans a.isLt⟩) (by rw [Fin.cons_succ, e])

end Rounds

end Cert.Choice
-- ==== Proof.Spec.lean ====
/- What both programs compute, on arrays of extended reals: normalised rows, their distances, each row's sixteen nearest
   other rows, and the two sums of clipped differences. Nothing here is about a program. -/
module

public import proofs.«01_k».proof.Proof.RowMath
public import proofs.«01_k».proof.Proof.Choice

@[expose] public section

noncomputable section

namespace Cert.Spec

open Idealize.ShloMosaic Cert.RowMath Cert.Choice

/-- One half. -/
abbrev half : EReal := Ideal.ofBits .f32 0x3F000000#32
/-- The threshold of the first sum. -/
abbrev thr : EReal := Ideal.ofBits .f32 0x3B23D70A#32

/-- A number if it is positive, else 0. -/
def clip (x : EReal) : EReal := if 0 < x then x else 0

variable (a t : Fin 1024 → Fin 128 → EReal)

/-- The corrected distance of two rows. On the diagonal there is no correction. -/
def dis (i j : Fin 1024) : EReal :=
  Ideal.sqrt (∑ k, (a i k - a j k) * (a i k - a j k)
    + (if i = j then 0 else (1 - ∑ k, a i k * a i k) + (1 - ∑ k, a j k * a j k)) + eps)

/-- The row the kernel's rounds take at round `n` for row `i`. -/
def near (i : Fin 1024) (n : ℕ) : Fin 1024 := firstMin (left big (fun j => if j = i then big else dis a i j) n)

/-- The first sum's term, for the row `i` and its neighbour `j`. -/
def term1 (i j : Fin 1024) : EReal :=
  clip ((half * dis a i j - half * Ideal.sqrt (apart (t i) (a j) + eps)) * (half * dis a i j - half * Ideal.sqrt (apart (t i) (a j) + eps)) - thr)

/-- The second sum's term, for the row `i` and its neighbour `j`. -/
def term2 (i j : Fin 1024) : EReal :=
  clip (half * Ideal.sqrt (∑ k, (a i k - t i k) * (a i k - t i k) + eps) + 1 - half * dis a i j)

/-- The first sum. -/
def loss1 : EReal := ∑ i, ∑ k : Fin 16, term1 a t i (near a i k)

/-- The second sum. -/
def loss2 : EReal := ∑ i, term2 a t i (near a i 0)

variable {a t} (ha : ∀ i, Short (a i))
include ha

/-- Off the diagonal the distance is the one with the inner product. -/
theorem dis_of_ne {i j : Fin 1024} (h : i ≠ j) : dis a i j = Ideal.sqrt (apart (a i) (a j) + eps) := by
  rw [dis, if_neg h, apart_eq_split (ha i) (ha j), split]

/-- Every distance is below the sentinel. -/
theorem dis_lt_big (i j : Fin 1024) : dis a i j < big := by
  by_cases h : i = j
  · subst h
    rw [dis, if_pos rfl]
    exact self_lt_big (ha i)
  · rw [dis, if_neg h]
    exact split_lt_big (ha i) (ha j)

/-- A row is strictly nearer to itself than to any other row. -/
theorem dis_self_lt {i j : Fin 1024} (h : j ≠ i) : dis a i i < dis a i j := by
  rw [dis, if_pos rfl, dis, if_neg h.symm]
  exact self_lt (ha i) (ha j)

/-- The rounds, for one row. -/
theorem rounds (i : Fin 1024) :
    Rounds (dis a i) i big (left big fun j => if j = i then big else dis a i j) (near a i) :=
  rounds_left (dis a i) i big (dis_lt_big ha i)

/-- The stable sort of a row's distances lists the row itself and then the sixteen rows the rounds take. -/
theorem sortedFrom_dis (i : Fin 1024) (k : Fin 16) :
    sortedFrom (fun j j' => decide (dis a i j < dis a i j')) (k.succ.castLE (by decide : 16 + 1 ≤ 1024)) = near a i k :=
  (rounds ha i).sortedFrom_eq (fun _ h => dis_self_lt ha h) 16 (by decide) k

/-- No round takes the row itself. -/
theorem near_ne (i : Fin 1024) (k : Fin 16) : near a i k ≠ i := ((rounds ha i).free k (by omega)).1

/-- What the round's row minimum is. -/
theorem left_near (i : Fin 1024) (k : Fin 16) :
    left big (fun j => if j = i then big else dis a i j) k (near a i k) = dis a i (near a i k) :=
  (rounds ha i).taken_value k (by omega)

end Cert.Spec
-- ==== Proof.KernelRows.lean ====
/- The kernel's vectors over the extended reals, read entry by entry: each round takes the first column at its row's
   minimum. -/
module

public import proofs.«01_k».proof.Proof.Rounds
public import proofs.«01_k».proof.Proof.Spec
public import Idealize.ShloMosaic.Lib.Pointwise

@[expose] public section

namespace Cert.KernelIdeal.Rounds

open Cert.KernelIdeal Cert.KernelIdeal.Gen Idealize.ShloMosaic Cert.RowMath Cert.Choice Cert.Spec

/-- A column number read as a signed integer is itself. -/
theorem toInt_ofNat_col {n : ℕ} (h : n < 2 ^ 31) : (BitVec.ofNat 32 n).toInt = n := by
  rw [BitVec.toInt_eq_toNat_of_lt (by rw [BitVec.toNat_ofNat]; omega), BitVec.toNat_ofNat]
  omega

/-- The signed minimum of two words is the minimum of the integers. -/
theorem toInt_minsi (x y : BitVec 32) : (IntOp.minsi x y).toInt = min x.toInt y.toInt := by
  simp only [IntOp.minsi, BitVec.slt, decide_eq_true_eq]
  split_ifs <;> omega

section
variable {d : FVec Ideal S1024x1024 .f32} {i p : Fin 1024} (h : IsFirstMin (fun j => d (ix2 i j)) p)
include h

/-- The row minimum is the entry at the first column of smallest value. -/
theorem rowMin_apply : rowMin d (ix1 i) = d (ix2 i p) := by
  unfold rowMin
  pointwise
  apply le_antisymm
  · exact (Finset.fold_min_le _).mpr (Or.inr ⟨p, Finset.mem_univ p, le_refl _⟩)
  · refine (Finset.le_fold_min _).mpr ⟨?_, fun x _ => h.1 x⟩
    have e : Ideal.ofBits .f32 2139095040#32 = (⊤ : EReal) := by simp [Ideal.ofBits, Ideal.ieee]
    rw [e]
    exact le_top

/-- The picked column is the first of smallest value. -/
theorem pick_apply : pick d (ix1 i) = BitVec.ofNat 32 p := by
  have hc : ∀ j, (cand d (ix2 i j)).toInt = if d (ix2 i j) ≤ d (ix2 i p) then (j.val : ℤ) else 1025 := fun j => by
    unfold cand alongRow cols
    pointwise
    rw [rowMin_apply h]
    split
    · exact toInt_ofNat_col (by omega)
    · rfl
  unfold pick
  pointwise
  apply BitVec.eq_of_toInt_eq
  rw [toInt_ofNat_col (by omega), ← Finset.fold_hom (op' := min) (m := BitVec.toInt) toInt_minsi]
  simp only [hc]
  apply le_antisymm
  · exact (Finset.fold_min_le _).mpr (Or.inr ⟨p, Finset.mem_univ p, by rw [if_pos (le_refl _)]⟩)
  · refine (Finset.le_fold_min _).mpr ⟨by rw [show (2147483647#32 : BitVec 32).toInt = 2147483647 by decide]; omega, fun x _ => ?_⟩
    split
    · rename_i hx
      have : ¬ x < p := fun hlt => absurd hx (not_le.mpr (h.2 x hlt))
      omega
    · omega

/-- The picked entry of the row is the one in that column. -/
theorem hot_apply (j : Fin 1024) : hot d (ix2 i j) = if j = p then 1#1 else 0#1 := by
  unfold hot alongRow cols
  pointwise
  rw [pick_apply h]
  by_cases e : j = p
  · subst e; simp [IntOp.cmpi]
  · have hne : BitVec.ofNat 32 j.val ≠ BitVec.ofNat 32 p.val := fun hh => e (Fin.ext (by
      have := congrArg BitVec.toNat hh
      rw [BitVec.toNat_ofNat, BitVec.toNat_ofNat] at this
      omega))
    rw [if_neg e, IntOp.cmpi, beq_eq_false_iff_ne.mpr hne, BitVec.ofBool_false]
    rfl

/-- A round sets the picked entry to the sentinel and leaves the rest of the row. -/
theorem mask_apply (j : Fin 1024) : mask d (ix2 i j) = if j = p then big else d (ix2 i j) := by
  unfold mask
  pointwise
  rw [hot_apply h]
  split <;> rfl

/-- The masked sum of a row of `c` is its entry in the picked column. -/
theorem taken_apply (c : FVec Ideal S1024x1024 .f32) : taken c d (ix1 i) = c (ix2 i p) := by
  unfold taken
  pointwise
  rw [Finset.sum_eq_single p]
  · rw [hot_apply h, if_pos rfl]; rfl
  · intro j _ hj
    rw [hot_apply h, if_neg hj]; rfl
  · exact fun hp => absurd (Finset.mem_univ p) hp

end

/-- After `n` rounds a row of the matrix is that row after `n` rounds. -/
theorem after_apply (d : FVec Ideal S1024x1024 .f32) (i : Fin 1024) (n : ℕ) (j : Fin 1024) :
    after d n (ix2 i j) = left big (fun j => d (ix2 i j)) n j := by
  induction n generalizing j with
  | zero => rfl
  | succ n ih =>
    have e : (fun j => after d n (ix2 i j)) = left big (fun j => d (ix2 i j)) n := funext ih
    rw [after, mask_apply (p := firstMin (left big (fun j => d (ix2 i j)) n)) (e ▸ firstMin_spec _), ih]
    rfl

/-- The stacked columns at an index. -/
theorem stack_apply (f : ℕ → FVec Ideal S1024 .f32) (i : Fin 1024) (k : Fin 16) : stack f (ix2 i k) = f k (ix1 i) := by
  unfold stack
  fin_cases k <;> simp only [] <;> pointwise

/-- An array's rows, normalised. -/
noncomputable def rows (x : Vec Ideal S1024x128 .f32) (i : Fin 1024) : Fin 128 → EReal := unit fun k => x (ix2 i k)

/-- The kernel's first normalised array. -/
theorem pay3_apply (x : Vec Ideal S1024x128 .f32) (i : Fin 1024) (k : Fin 128) : k0_pay3 (View.ld x r0_0) (ix2 i k) = rows x i k := by
  unfold k0_pay3
  pointwise
  rfl

/-- The kernel's second normalised array. -/
theorem pay4_apply (x : Vec Ideal S1024x128 .f32) (i : Fin 1024) (k : Fin 128) : k0_pay4 (View.ld x r0_0) (ix2 i k) = rows x i k := by
  unfold k0_pay4
  pointwise
  rfl

/-- Every row is short. -/
theorem short_rows (x : Vec Ideal S1024x128 .f32) (i : Fin 1024) : Short (rows x i) := short_unit _

/-- The matrix the rounds start from. -/
theorem dist_apply (x0 : Vec Ideal S1024x128 .f32) (i j : Fin 1024) :
    dist x0 (ix2 i j) = if j = i then big else dis (rows x0) i j := by
  unfold dist k0_pay6
  pointwise
  simp only [pay3_apply]
  by_cases e : j = i
  · subst e
    rw [if_pos rfl]
    simp [IntOp.cmpi, Scalar.select]
  · have hne : BitVec.ofNat 32 i.val ≠ BitVec.ofNat 32 j.val := fun hh => e (Fin.ext (by
      have := congrArg BitVec.toNat hh
      rw [BitVec.toNat_ofNat, BitVec.toNat_ofNat] at this
      omega))
    rw [if_neg e, dis_of_ne (short_rows x0) (Ne.symm e)]
    simp only [IntOp.cmpi, beq_eq_false_iff_ne.mpr hne, BitVec.ofBool_false, ValueIdx.select_zero]
    rfl

/-- The matrix of inner products. -/
theorem prod_apply (x0 x1 : Vec Ideal S1024x128 .f32) (i j : Fin 1024) :
    prod x0 x1 (ix2 i j) = ∑ k, rows x1 i k * rows x0 j k := by
  unfold prod k0_pay5
  pointwise
  simp only [pay3_apply, pay4_apply]

variable (x0 x1 : Vec Ideal S1024x128 .f32)

/-- Round `n` of row `i` takes the row's `n`-th nearest other row. -/
theorem first_near (i : Fin 1024) (n : ℕ) : IsFirstMin (fun j => after (dist x0) n (ix2 i j)) (near (rows x0) i n) := by
  have e : (fun j => after (dist x0) n (ix2 i j)) = left big (fun j => if j = i then big else dis (rows x0) i j) n := by
    funext j
    rw [after_apply]
    simp only [dist_apply]
  rw [e]
  exact firstMin_spec _

/-- The stacked minima are the distances to the sixteen nearest. -/
theorem minima_apply (i : Fin 1024) (k : Fin 16) :
    stack (fun n => rowMin (after (dist x0) n)) (ix2 i k) = dis (rows x0) i (near (rows x0) i k) := by
  rw [stack_apply, rowMin_apply (first_near x0 i k), after_apply]
  simp only [dist_apply]
  exact left_near (short_rows x0) i k

/-- The stacked products are the inner products with the sixteen nearest. -/
theorem products_apply (i : Fin 1024) (k : Fin 16) :
    stack (fun n => taken (prod x0 x1) (after (dist x0) n)) (ix2 i k)
      = ∑ l, rows x1 i l * rows x0 (near (rows x0) i k) l := by
  rw [stack_apply, taken_apply (first_near x0 i k), prod_apply]

/-- The first scalar the kernel stores. -/
theorem pay75_apply (v : FVec Ideal S1024x16 .f32) (w : FVec Ideal S1024x16 .f32)
    (hv : ∀ i k, v (ix2 i k) = ∑ l, rows x1 i l * rows x0 (near (rows x0) i k) l)
    (hw : ∀ i k, w (ix2 i k) = half * dis (rows x0) i (near (rows x0) i k)) :
    k0_pay75 v w (Scalar.ofBits .f32 0x40000000#32) = loss1 (rows x0) (rows x1) := by
  unfold k0_pay75 loss1
  pointwise
  simp only [hv, hw]
  rfl

/-- The second scalar the kernel stores. -/
theorem pay76_apply (w : FVec Ideal S1024x16 .f32)
    (hw : ∀ i k, w (ix2 i k) = dis (rows x0) i (near (rows x0) i k)) :
    k0_pay76 (k0_pay3 (View.ld x0 r0_0)) (k0_pay4 (View.ld x1 r0_0)) w (ix1 0) = loss2 (rows x0) (rows x1) := by
  unfold k0_pay76 loss2
  pointwise
  simp only [hw, pay3_apply, pay4_apply]
  rfl

end Cert.KernelIdeal.Rounds
-- ==== Proof.KernelRun.lean ====
/- What the kernel's program leaves in its three results, over the extended reals. -/
module

public import proofs.«01_k».proof.Proof.KernelRows
public import Idealize.ShloMosaic.Lib.Pipeline.ValueKit
public import Idealize.ShloMosaic.Lib.StableHlo.ReadAt

@[expose] public section

noncomputable section

namespace Cert.KernelIdeal.Rounds

open Cert.KernelIdeal Cert.KernelIdeal.Gen Idealize.ShloMosaic Idealize.ShloMosaic.TcCoe Idealize.SL.Sem Cert.RowMath Cert.Choice Cert.Spec

/-- The stores start at the block's origin. -/
theorem origin : (![0, 0] : Fin 2 → Nat) = fun _ => 0 := funext fun a => by fin_cases a <;> rfl

/-- The block the first store fills. -/
theorem pay1_apply (v : Ideal .f32) (j : S1x1.Idx) : k0_pay1 (F := Ideal) v j = v := rfl

/-- The block the second store fills. -/
theorem pay2_apply (v : FVec Ideal S1 .f32) (j : S1x1.Idx) : k0_pay2 v j = v (ix1 0) := by
  unfold k0_pay2
  pointwise

/-- What the body leaves in the first output block: the first sum. -/
theorem out2_eq (x0 x1 : Vec Ideal S1024x128 .f32) : out0_2 x0 x1 = fun _ => loss1 (rows x0) (rows x1) := by
  unfold out0_2
  rw [View.canon_unit_zero origin, products_eq]
  funext j
  rw [pay1_apply]
  refine pay75_apply x0 x1 _ _ (fun i k => products_apply x0 x1 i k) fun i k => ?_
  unfold k0_pay74
  pointwise
  rw [minima_eq, minima_apply]

/-- What the body leaves in the second output block: the second sum. -/
theorem out3_eq (x0 x1 : Vec Ideal S1024x128 .f32) : out0_3 x0 x1 = fun _ => loss2 (rows x0) (rows x1) := by
  unfold out0_3
  rw [View.canon_unit_zero origin, minima_eq]
  funext j
  rw [pay2_apply]
  exact pay76_apply x0 x1 _ fun i k => minima_apply x0 i k

variable (m : (ℓ : Loc nD τ sig) → Buf (Elt Ideal) ℓ) (ρ : Dev nD → PrngReg)

/-- The first argument's normalised rows. -/
def a (c : Dev nD) : Fin 1024 → Fin 128 → EReal := rows (m ((c : Thread nD τ).loc main_arg0))
/-- The second argument's normalised rows. -/
def t (c : Dev nD) : Fin 1024 → Fin 128 → EReal := rows (m ((c : Thread nD τ).loc main_arg1))

/-- The first input window's block index at the one point. -/
theorem idx_zero0 : ∀ t : Fin cfg0.N, win0_0.index t (0 : Fin 2) = 0 ∧ win0_0.index t (1 : Fin 2) = 0 :=
  (by decide +kernel : ∀ t : Fin grid0.N, _)
/-- The second input window's block index at the one point. -/
theorem idx_zero1 : ∀ t : Fin cfg0.N, win0_1.index t (0 : Fin 2) = 0 ∧ win0_1.index t (1 : Fin 2) = 0 :=
  (by decide +kernel : ∀ t : Fin grid0.N, _)

/-- The first input's block is the whole array. -/
theorem block0_eq (c : Dev nD) (t : Fin cfg0.N) : iblk m c 0 t = m ((c : Thread nD τ).loc main_arg0) := by
  obtain ⟨e0, e1⟩ := idx_zero0 t
  have e : ∀ j : S1024x128.Idx, ((cfg0.win 0).blk t).view.emb j = j := fun j => by
    funext a; apply Fin.ext
    match a with
    | ⟨0, _⟩ => show win0_0.index t (0 : Fin 2) * 1024 + 1 * (j 0).val = (j 0).val; omega
    | ⟨1, _⟩ => show win0_0.index t (1 : Fin 2) * 128 + 1 * (j 1).val = (j 1).val; omega
  funext j
  show V m c main_arg0 (((cfg0.win 0).blk t).view.emb j) = V m c main_arg0 j
  rw [e]

/-- The second input's block is the whole array. -/
theorem block1_eq (c : Dev nD) (t : Fin cfg0.N) : iblk m c 1 t = m ((c : Thread nD τ).loc main_arg1) := by
  obtain ⟨e0, e1⟩ := idx_zero1 t
  have e : ∀ j : S1024x128.Idx, ((cfg0.win 1).blk t).view.emb j = j := fun j => by
    funext a; apply Fin.ext
    match a with
    | ⟨0, _⟩ => show win0_1.index t (0 : Fin 2) * 1024 + 1 * (j 0).val = (j 0).val; omega
    | ⟨1, _⟩ => show win0_1.index t (1 : Fin 2) * 128 + 1 * (j 1).val = (j 1).val; omega
  funext j
  show V m c main_arg1 (((cfg0.win 1).blk t).view.emb j) = V m c main_arg1 j
  rw [e]

/-- The first output array after the run holds the first sum. -/
theorem final2 (c : Dev nD) : (dats m 0 c).arrAt 2 cfg0.N = fun _ => loss1 (a m c) (t m c) := by
  refine (dats m 0 c).arrAt_eq_of_covers 2 _ (by decide +kernel) fun p hf y => ?_
  blk_simp
  rw [after0_2, out2_eq, block0_eq, block1_eq]
  rfl

/-- The second output array after the run holds the second sum. -/
theorem final3 (c : Dev nD) : (dats m 0 c).arrAt 3 cfg0.N = fun _ => loss2 (a m c) (t m c) := by
  refine (dats m 0 c).arrAt_eq_of_covers 3 _ (by decide +kernel) fun p hf y => ?_
  blk_simp
  rw [after0_3, out3_eq, block0_eq, block1_eq]
  rfl

/-- The buffers as the pipeline leaves them. -/
def exit (c : Dev nD) := Pipeline.withArrays cfg0.spec c (V0 m c) fun w => (dats m 0 c).arrAt w cfg0.N

/-- The first output array as the pipeline leaves it. -/
theorem exit2 (c : Dev nD) : exit m c (Proc.devRef .tc main_v0_0) = fun _ => loss1 (a m c) (t m c) :=
  (Pipeline.withArrays_arr cfg0.spec (by decide) c (V0 m c) (fun w => (dats m 0 c).arrAt w cfg0.N) 2).trans (final2 m c)

/-- The second output array as the pipeline leaves it. -/
theorem exit3 (c : Dev nD) : exit m c (Proc.devRef .tc main_v0_1) = fun _ => loss2 (a m c) (t m c) :=
  (Pipeline.withArrays_arr cfg0.spec (by decide) c (V0 m c) (fun w => (dats m 0 c).arrAt w cfg0.N) 3).trans (final3 m c)

/-- The second result: the first sum. -/
theorem tail_v1 (c : Dev nD) : Pipeline.afterTail₀ cfgs (dats m) 0 (V0 m) [hostOps1] c main_v1 = fun _ => loss1 (a m c) (t m c) := by
  funext j
  show StableHlo.after hostOps1 (exit m c) (Proc.devRef .tc main_v1) j = _
  after_reads_at
  rw [exit2]

/-- The third result: the second sum. -/
theorem tail_v2 (c : Dev nD) : Pipeline.afterTail₀ cfgs (dats m) 0 (V0 m) [hostOps1] c main_v2 = fun _ => loss2 (a m c) (t m c) := by
  funext j
  show StableHlo.after hostOps1 (exit m c) (Proc.devRef .tc main_v2) j = _
  after_reads_at
  rw [exit3]

/-- The first result: the two sums added. -/
theorem tail_v3 (c : Dev nD) : Pipeline.afterTail₀ cfgs (dats m) 0 (V0 m) [hostOps1] c main_v3
    = fun _ => loss1 (a m c) (t m c) + loss2 (a m c) (t m c) := by
  funext j
  show StableHlo.after hostOps1 (exit m c) (Proc.devRef .tc main_v3) j = _
  after_reads_at
  rw [exit2, exit3]

/-- Every run ends with the three results at the sums and the arguments as they were. -/
theorem run : θ_run defs (onTc (τ := τ) (main (F := Ideal))) ⟨m, fun _ => 0, ρ⟩ fun r => ∀ c : Dev nD,
      r.2.mem ((c.tc : Thread nD τ).loc main_v3) = (fun _ => loss1 (a m c) (t m c) + loss2 (a m c) (t m c))
      ∧ r.2.mem ((c.tc : Thread nD τ).loc main_v1) = (fun _ => loss1 (a m c) (t m c))
      ∧ r.2.mem ((c.tc : Thread nD τ).loc main_v2) = (fun _ => loss2 (a m c) (t m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_v3 m c),
      ((h c).2 main_v1 (Pipeline.mem_restRefs_of main_v1 (by decide) (by decide))).trans (tail_v1 m c),
      ((h c).2 main_v2 (Pipeline.mem_restRefs_of main_v2 (by decide) (by decide))).trans (tail_v2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Rounds

end
-- ==== Proof.Reads.lean ====
/- Three array operations read at an index: the indices a top-k returns, and the gather of whole rows of a matrix at a
   vector and at a matrix of row numbers. Nothing here is about a program. -/
module

public import Idealize.ShloMosaic.Lib.ValueIdxCore
public import Idealize.ShloMosaic.Lib.Pointwise
public import Idealize.ShloMosaic.Lib.StableHlo.Predicate

@[expose] public section

namespace Cert.Reads

open Idealize.ShloMosaic

variable {α : Type}

/-- The index a top-k along the columns returns at place `p` of row `i`: the column that stands at that place in the
    stable sort of the row. -/
theorem topK_index {R N K : ℕ} (hK : K ≤ N) (gt : α → α → BitVec 1) (x : (⟨2, ![R, N]⟩ : Shape).Idx → α)
    (h : (⟨2, ![R, N]⟩ : Shape).Slices (fun _ => 0) ⟨2, ![R, K]⟩) (i : Fin R) (p : Fin K) :
    (Host.topK ⟨2, ![R, K]⟩ 1 gt x h).2 (ix2 i p)
      = BitVec.ofNat 32 (sortedFrom (fun j j' : Fin N => gt (x (ix2 i j)) (x (ix2 i j')) == 1#1) (p.castLE hK)).val := by
  have hd : 1 < (⟨2, ![R, N]⟩ : Shape).rank := Nat.one_lt_two
  have e : ∀ (q j : Fin N), (Shape.Idx.along (s := ⟨2, ![R, N]⟩) (ix2 i q) 1 j) = ix2 i j := fun q j => by
    funext b
    match b with
    | ⟨0, _⟩ => rfl
    | ⟨1, _⟩ => rfl
  have key : ∀ y : (⟨2, ![R, N]⟩ : Shape).Idx, y = ix2 i (p.castLE hK) →
      iotaInDim ⟨2, ![R, N]⟩ 32 1 (Shape.Idx.along y 1 (sortedFrom (fun k k' : Fin N =>
        gt (x (Shape.Idx.along y 1 k)) (x (Shape.Idx.along y 1 k')) == 1#1) (y 1)))
      = BitVec.ofNat 32 (sortedFrom (fun j j' : Fin N => gt (x (ix2 i j)) (x (ix2 i j')) == 1#1) (p.castLE hK)).val := by
    rintro _ rfl
    simp only [e]
    rfl
  unfold Host.topK extractStridedSlice Host.sort2
  simp only [dif_pos hd]
  refine key _ (funext fun b => ?_)
  match b with
  | ⟨0, _⟩ => exact Fin.ext (Nat.zero_add _)
  | ⟨1, _⟩ => exact Fin.ext (Nat.zero_add _)

/-- The dimension numbers of a gather of whole rows of an `[N, B]` matrix at an `[R, C]` matrix of row numbers. -/
abbrev rowsDims (N B R C : ℕ)
    (wf : GatherDims.WF ⟨2, ![N, B]⟩ ⟨3, ![R, C, 1]⟩ ⟨3, ![R, C, B]⟩ [2] [0] [] [0] [] 2 ![1, B]) :
    GatherDims ⟨2, ![N, B]⟩ ⟨3, ![R, C, 1]⟩ ⟨3, ![R, C, B]⟩ where
  offsetDims := [2]
  collapsedSliceDims := [0]
  operandBatchingDims := []
  startIndicesBatchingDims := []
  startIndexMap := [0]
  indexVectorDim := 2
  sliceSizes := ![1, B]
  wf := wf

/-- That gather read at an index whose row number is in range: that row's entry. -/
theorem gather_rows {N B R C : ℕ}
    (wf : GatherDims.WF ⟨2, ![N, B]⟩ ⟨3, ![R, C, 1]⟩ ⟨3, ![R, C, B]⟩ [2] [0] [] [0] [] 2 ![1, B])
    (x : (⟨2, ![N, B]⟩ : Shape).Idx → α) (idx : IVec ⟨3, ![R, C, 1]⟩ 32) (i : Fin R) (k : Fin C) (l : Fin B) (b : Fin N)
    (hb : idx (ix3 i k 0) = BitVec.ofNat 32 b.val) (hN : N < 2 ^ 31) :
    Host.gather (rowsDims N B R C wf) x idx (ix3 i k l) = x (ix2 b l) := by
  unfold Host.gather
  refine congrArg x (funext fun a => Fin.ext ?_)
  have hl := b.isLt
  match a with
  | ⟨0, _⟩ =>
    show (rowsDims N B R C wf).start (ix3 i k l) idx 0 + (rowsDims N B R C wf).batchCoord (ix3 i k l) 0
      + (rowsDims N B R C wf).offCoord (ix3 i k l) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N B R C wf).startIndexMap from List.mem_singleton.mpr rfl)]
    have hsi : (rowsDims N B R C wf).siIdx (ix3 i k l) ⟨List.idxOf (0 : Fin 2) (rowsDims N B R C wf).startIndexMap,
        List.idxOf_lt_length_iff.2 (List.mem_singleton.mpr rfl)⟩ = ix3 i k 0 := by
      funext d; refine Fin.ext ?_
      match d with
      | ⟨0, _⟩ => rfl
      | ⟨1, _⟩ => rfl
      | ⟨2, _⟩ => rfl
    rw [hsi, hb, StableHlo.Predicate.toInt_ofNat_small _ (by omega)]
    show min ((b.val : Int)).toNat (N - 1) = b.val
    omega
  | ⟨1, _⟩ =>
    show (rowsDims N B R C wf).start (ix3 i k l) idx 1 + (rowsDims N B R C wf).batchCoord (ix3 i k l) 1
      + (rowsDims N B R C wf).offCoord (ix3 i k l) 1 = l.val
    rw [GatherDims.batchCoord_eq_zero _ _ _ List.not_mem_nil, Nat.add_zero]
    unfold GatherDims.start GatherDims.offCoord
    rw [dif_neg (by simp), dif_pos ((GatherDims.mem_sKept _ 1).2 ⟨by simp, List.not_mem_nil⟩), Nat.zero_add]
    rfl

/-- The gather of a vector's entries at a matrix of positions, read at an index whose position is in range. -/
theorem gather_entries {N R C : ℕ}
    (wf : GatherDims.WF ⟨1, ![N]⟩ ⟨3, ![R, C, 1]⟩ ⟨2, ![R, C]⟩ [] [0] [] [0] [] 2 ![1])
    (x : (⟨1, ![N]⟩ : Shape).Idx → α) (idx : IVec ⟨3, ![R, C, 1]⟩ 32) (i : Fin R) (k : Fin C) (b : Fin N)
    (hb : idx (ix3 i k 0) = BitVec.ofNat 32 b.val) (hN : N < 2 ^ 31) :
    Host.gather (ValueIdx.takeDims N R C wf) x idx (ix2 i k) = x (ix1 b) := by
  have hl := b.isLt
  rw [ValueIdx.gather_take_apply (by omega)]
  have e : ValueIdx.takeIdx (ix2 i k) = ix3 i k 0 := by
    funext d
    match d with
    | ⟨0, _⟩ => rfl
    | ⟨1, _⟩ => rfl
    | ⟨2, _⟩ => rfl
  refine congrArg x (funext fun a => ?_)
  match a with
  | ⟨0, _⟩ =>
    refine Fin.ext ?_
    show min (idx (ValueIdx.takeIdx (ix2 i k))).toInt.toNat (N - 1) = b.val
    rw [e, hb, StableHlo.Predicate.toInt_ofNat_small _ (by omega)]
    omega

end Cert.Reads
-- ==== Proof.ReferenceRows.lean ====
/- The reference's arrays over the extended reals, read entry by entry. -/
module

public import proofs.«01_k».proof.Proof.Gen.ReferenceIdeal.Run
public import proofs.«01_k».proof.Proof.Reads
public import proofs.«01_k».proof.Proof.Spec
public import Idealize.ShloMosaic.Lib.Routing.Ops
public import Idealize.ShloMosaic.Lib.Routing.OpsSet
public import Idealize.ShloMosaic.Lib.Routing.OpsPair

@[expose] public section

noncomputable section

namespace Cert.ReferenceIdeal.Rows

open Cert.ReferenceIdeal Cert.ReferenceIdeal.Gen Cert.ReferenceIdeal.Value Idealize.ShloMosaic Idealize.ShloMosaic.TcCoe
open Cert.RowMath Cert.Choice Cert.Spec Cert.Reads

variable (V : Valuation τ sig (Elt Ideal))

/-- The first argument's normalised rows. -/
def a (i : Fin 1024) : Fin 128 → EReal :=
  unit fun k => (V (Proc.devRef .tc main_arg0) : (⟨S1024x128, .f32⟩ : BufTy).Contents (Elt Ideal)) (ix2 i k)
/-- The second argument's normalised rows. -/
def t (i : Fin 1024) : Fin 128 → EReal :=
  unit fun k => (V (Proc.devRef .tc main_arg1) : (⟨S1024x128, .f32⟩ : BufTy).Contents (Elt Ideal)) (ix2 i k)

/-- Normalised rows are short. -/
theorem short_a (i : Fin 1024) : Short (a V i) := short_unit _
/-- Normalised rows are short. -/
theorem short_t (i : Fin 1024) : Short (t V i) := short_unit _

/-- The first normalised array. -/
theorem v7_apply (i : Fin 1024) (k : Fin 128) : res_main_v7 (F := Ideal) V (ix2 i k) = a V i k := by
  unfold res_main_v7 a unit
  pointwise

/-- The second normalised array. -/
theorem v15_apply (i : Fin 1024) (k : Fin 128) : res_main_v15 (F := Ideal) V (ix2 i k) = t V i k := by
  unfold res_main_v15 t unit
  pointwise

/-- What the first array's rows are short of length one. -/
theorem v19_apply (i : Fin 1024) : res_main_v19 (F := Ideal) V (ix1 i) = 1 - ∑ k, a V i k * a V i k := by
  unfold res_main_v19
  pointwise
  simp only [v7_apply]

/-- The rows' differences. -/
theorem v39_apply (i j : Fin 1024) (k : Fin 128) : res_main_v39 (F := Ideal) V (ix3 i j k) = a V i k - a V j k := by
  unfold res_main_v39
  pointwise
  simp only [v7_apply]

/-- The choice by whether two row numbers are the same. -/
theorem diag_apply (i j : Fin 1024) (x y : EReal) :
    Scalar.select (IntOp.cmpi .eq (IntOp.addi (BitVec.ofNat 32 i.val) 0#32) (BitVec.ofNat 32 j.val)) x y
      = if i = j then x else y := by
  have e : (IntOp.addi (BitVec.ofNat 32 i.val) 0#32 = BitVec.ofNat 32 j.val) ↔ i = j := by
    show (BitVec.ofNat 32 i.val + 0#32 = _) ↔ _
    rw [BitVec.add_zero]
    constructor
    · intro h
      have h' := congrArg BitVec.toNat h
      simp only [BitVec.toNat_ofNat] at h'
      exact Fin.ext (by omega)
    · rintro rfl; rfl
  by_cases h : i = j
  · rw [if_pos h, IntOp.cmpi, beq_iff_eq.mpr (e.mpr h)]; rfl
  · rw [if_neg h, IntOp.cmpi, beq_eq_false_iff_ne.mpr (fun h' => h (e.mp h'))]; rfl

/-- The distances, negated. -/
theorem v46_apply (i j : Fin 1024) : res_main_v46 (F := Ideal) V (ix2 i j) = - dis (a V) i j := by
  unfold res_main_v46 dis
  simp only [id]
  pointwise
  simp only [v39_apply, v19_apply]
  rw [diag_apply]

/-- The order of the sort: nearer rows first. -/
theorem order_apply (x y : EReal) : (FloatOps.cmpfTotal (F := Ideal) (φ := .f32) .gt (-x) (-y) == 1#1) = decide (x < y) := by
  have e : FloatOps.cmpfTotal (F := Ideal) (φ := .f32) .gt (-x) (-y) = BitVec.ofBool (decide (-y < -x)) := rfl
  rw [e]
  by_cases h : x < y
  · have h' : -y < -x := EReal.neg_lt_neg_iff.mpr h
    simp [h, h']
  · have h' : ¬ -y < -x := fun h' => h (EReal.neg_lt_neg_iff.mp h')
    simp [h, h']

/-- The index at place `k + 1`: the row that the rounds take at round `k`. -/
theorem indices_apply (i : Fin 1024) (k : Fin 16) :
    res_main_indices (F := Ideal) V (ix2 i k.succ) = BitVec.ofNat 32 (near (a V) i k).val := by
  unfold res_main_indices
  refine (topK_index (by decide : 17 ≤ 1024) _ _ _ i k.succ).trans ?_
  simp only [v46_apply, order_apply]
  rw [sortedFrom_dis (short_a V) i k]

/-- The neighbours' numbers. -/
theorem v47_apply (i : Fin 1024) (k : Fin 16) : res_main_v47 (F := Ideal) V (ix2 i k) = BitVec.ofNat 32 (near (a V) i k).val := by
  refine Eq.trans ?_ (indices_apply V i k)
  unfold res_main_v47 extractStridedSlice
  refine congrArg (res_main_indices (F := Ideal) V) (funext fun b => Fin.ext ?_)
  match b with
  | ⟨0, _⟩ => exact Nat.zero_add _
  | ⟨1, _⟩ => exact Nat.add_comm 1 _

/-- A column number is not negative, so it is kept. -/
theorem wrap_apply (n : Fin 1024) (x : BitVec 32) :
    Scalar.select (IntOp.cmpi .slt (BitVec.ofNat 32 n.val) 0#32) x (BitVec.ofNat 32 n.val) = BitVec.ofNat 32 n.val :=
  Routing.wrap_of_lt _ _ (by rw [BitVec.toNat_ofNat]; omega)

/-- The neighbours' rows. -/
theorem v54_apply (i : Fin 1024) (k : Fin 16) (l : Fin 128) : res_main_v54 (F := Ideal) V (ix3 i k l) = a V (near (a V) i k) l := by
  unfold res_main_v54
  refine (gather_rows (N := 1024) (B := 128) (R := 1024) (C := 16) _ _ _ i k l (near (a V) i k) ?_ (by decide)).trans
    (v7_apply V _ _)
  pointwise
  rw [v47_apply, wrap_apply]

/-- What the neighbours' rows are short of length one. -/
theorem v61_apply (i : Fin 1024) (k : Fin 16) :
    res_main_v61 (F := Ideal) V (ix2 i k) = 1 - ∑ l, a V (near (a V) i k) l * a V (near (a V) i k) l := by
  unfold res_main_v61
  refine (gather_entries (N := 1024) (R := 1024) (C := 16) _ _ _ i k (near (a V) i k) ?_ (by decide)).trans
    (v19_apply V _)
  pointwise
  rw [v47_apply, wrap_apply]

/-- The first term before its clipping. -/
theorem v93_apply (i : Fin 1024) (k : Fin 16) :
    clip (res_main_v93 (F := Ideal) V (ix2 i k)) = term1 (a V) (t V) i (near (a V) i k) := by
  have e1 : dis (a V) i (near (a V) i k) = Ideal.sqrt (split (a V i) (a V (near (a V) i k)) + eps) := by
    rw [dis, if_neg (near_ne (short_a V) i k).symm, split]
  rw [term1, apart_eq_split (short_t V i) (short_a V _), e1]
  unfold res_main_v93 res_main_v90 res_main_v64 res_main_v78 split
  pointwise
  simp only [v7_apply, v15_apply, v19_apply, v54_apply, v61_apply]

/-- The nearest neighbour's number. -/
theorem v108_apply (i : Fin 1024) : res_main_v108 (F := Ideal) V (ix1 i) = BitVec.ofNat 32 (near (a V) i 0).val := by
  refine Eq.trans ?_ (indices_apply V i 0)
  unfold res_main_v108
  pointwise
  rfl

/-- The array of the nearest neighbours' numbers as the gathers take it: `w` is either copy of the numbers. -/
theorem numbers_apply (w : IVec S1024 32) (hw : ∀ i : Fin 1024, w (ix1 i) = BitVec.ofNat 32 (near (a V) i 0).val) (i : Fin 1024) :
    broadcastInDim S1024x1 ![0] bcast_S1024_S1024x1_0 (select (cmpi .slt w (broadcastInDim S1024 ![] bcast_S_S1024 (constantI S_ 32 0#32)))
      (addi w (broadcastInDim S1024 ![] bcast_S_S1024 (constantI S_ 32 1024#32))) w) (ix2 i 0) = BitVec.ofNat 32 (near (a V) i 0).val := by
  pointwise
  rw [hw, wrap_apply]

/-- The nearest neighbour's row. -/
theorem row_apply (i : Fin 1024) (l : Fin 128) :
    Host.gather gather_S1024x128_S1024x1_S1024x128_1_0_n_n_0_1_1128 (res_main_v7 (F := Ideal) V) (broadcastInDim S1024x1 ![0] bcast_S1024_S1024x1_0
      (select (cmpi .slt (res_main_v108 (F := Ideal) V) (broadcastInDim S1024 ![] bcast_S_S1024 (constantI S_ 32 0#32)))
        (addi (res_main_v108 (F := Ideal) V) (broadcastInDim S1024 ![] bcast_S_S1024 (constantI S_ 32 1024#32))) (res_main_v108 (F := Ideal) V))) (ix2 i l)
      = a V (near (a V) i 0) l :=
  (Routing.gather_row (nb := 1024) (B := 128) (n := 1024) gather_S1024x128_S1024x1_S1024x128_1_0_n_n_0_1_1128 rfl rfl rfl rfl rfl
    _ _ i l (near (a V) i 0) (numbers_apply V _ (v108_apply V) i) (by decide)).trans (v7_apply V _ l)

/-- What the nearest neighbour's row is short of length one. -/
theorem entry_apply (i : Fin 1024) :
    Host.gather gather_S1024_S1024x1_S1024_n_0_n_n_0_1_1 (res_main_v19 (F := Ideal) V) (broadcastInDim S1024x1 ![0] bcast_S1024_S1024x1_0
      (select (cmpi .slt (res_main_v117 (F := Ideal) V) (broadcastInDim S1024 ![] bcast_S_S1024 (constantI S_ 32 0#32)))
        (addi (res_main_v117 (F := Ideal) V) (broadcastInDim S1024 ![] bcast_S_S1024 (constantI S_ 32 1024#32))) (res_main_v117 (F := Ideal) V))) (ix1 i)
      = 1 - ∑ l, a V (near (a V) i 0) l * a V (near (a V) i 0) l :=
  (Routing.gather_take1 (N := 1024) (n := 1024) gather_S1024_S1024x1_S1024_n_0_n_n_0_1_1 rfl rfl rfl rfl
    _ _ i (near (a V) i 0) (numbers_apply V _ (v108_apply V) i) (by decide)).trans (v19_apply V _)

/-- The row's difference from its nearest neighbour. -/
theorem v125_apply (i : Fin 1024) (l : Fin 128) : res_main_v125 (F := Ideal) V (ix2 i l) = a V i l - a V (near (a V) i 0) l := by
  unfold res_main_v125
  pointwise
  exact congrArg₂ (· - ·) (v7_apply V i l) (row_apply V i l)

/-- The second term before its clipping. -/
theorem v137_apply (i : Fin 1024) : clip (res_main_v137 (F := Ideal) V (ix1 i)) = term2 (a V) (t V) i (near (a V) i 0) := by
  have hn : i ≠ near (a V) i 0 := (near_ne (short_a V) i 0).symm
  have e1 : dis (a V) i (near (a V) i 0) = Ideal.sqrt (split (a V i) (a V (near (a V) i 0)) + eps) := by
    rw [dis, if_neg hn, split]
  rw [term2, e1]
  unfold res_main_v137 res_main_v99 split
  pointwise
  simp only [v7_apply, v15_apply, v19_apply, v125_apply]
  erw [entry_apply]

/-- The reference's first sum. -/
theorem sum1 : Host.reduceAdd (F := Ideal) (φ := .f32) (select (cmpf (F := Ideal) (φ := .f32) .ogt (res_main_v93 (F := Ideal) V) (broadcastInDim S1024x16 ![] bcast_S_S1024x16 (constant S_ .f32 0x00000000#32))) (res_main_v93 (F := Ideal) V) (broadcastInDim S1024x16 ![] bcast_S_S1024x16 (constant S_ .f32 0x00000000#32))) (constant S_ .f32 0x00000000#32) reducesTo_S1024x16_S_d0_1 h_S_ = fun _ => loss1 (a V) (t V) := by
  funext j
  unfold loss1
  simp only [← v93_apply]
  unfold clip
  pointwise

/-- The reference's second sum. -/
theorem sum2 : Host.reduceAdd (F := Ideal) (φ := .f32) (select (cmpf (F := Ideal) (φ := .f32) .ogt (res_main_v137 (F := Ideal) V) (broadcastInDim S1024 ![] bcast_S_S1024 (constant S_ .f32 0x00000000#32))) (res_main_v137 (F := Ideal) V) (broadcastInDim S1024 ![] bcast_S_S1024 (constant S_ .f32 0x00000000#32))) (constant S_ .f32 0x00000000#32) reducesTo_S1024_S_d0 h_S_ = fun _ => loss2 (a V) (t V) := by
  funext j
  unfold loss2
  simp only [← v137_apply]
  unfold clip
  pointwise

end Cert.ReferenceIdeal.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.KernelRun
public import proofs.«01_k».proof.Proof.ReferenceRows
public import Idealize.ShloMosaic.Adequacy
public import Idealize.ShloMosaic.Init

@[expose] public section

noncomputable section

namespace Cert.Proof

open Idealize.ShloMosaic Idealize.SL.Sem Idealize.ShloMosaic.StableHlo Cert.Kernel

/-- The reference runs to its end with its two arguments unchanged and every semaphore counter at zero:
    it is a line of host operations that writes neither argument, and it declares no semaphore. -/
theorem frame_reference : Cert.quiescent_ReferenceIdeal (hReferenceIdeal := Cert.ReferenceIdeal.Gen.facts) := by
  intro m ρ _
  exact (θ_run Cert.ReferenceIdeal.defs _ _).mono (fun r h => ⟨fun c => ⟨(h c).2.2.2.1, (h c).2.2.2.2⟩,
      Idealize.ShloMosaic.sem_eq_zero_of_no_sems (by decide) r.2⟩)
    (Cert.ReferenceIdeal.Value.run (F := Ideal) m ρ)

/-- The reference's run, in the terms of the two sums: the first result is their sum, the other two are the sums. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        let a := Cert.ReferenceIdeal.Rows.a (launchContents m c)
        let t := Cert.ReferenceIdeal.Rows.t (launchContents m c)
        r.2.mem ((c.tc : Thread Cert.ReferenceIdeal.nD Cert.ReferenceIdeal.τ).loc Cert.ReferenceIdeal.main_v143) = (fun _ => Cert.Spec.loss1 a t + Cert.Spec.loss2 a t)
        ∧ r.2.mem ((c.tc : Thread Cert.ReferenceIdeal.nD Cert.ReferenceIdeal.τ).loc Cert.ReferenceIdeal.main_v98) = (fun _ => Cert.Spec.loss1 a t)
        ∧ r.2.mem ((c.tc : Thread Cert.ReferenceIdeal.nD Cert.ReferenceIdeal.τ).loc Cert.ReferenceIdeal.main_v142) = (fun _ => Cert.Spec.loss2 a t)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun r h c => by
      obtain ⟨h0, h1, h2, h3, h4⟩ := h c
      have s1 := Cert.ReferenceIdeal.Rows.sum1 (launchContents m c)
      have s2 := Cert.ReferenceIdeal.Rows.sum2 (launchContents m c)
      exact ⟨h0.trans (congrArg₂ addf s1 s2), h1.trans s1, h2.trans s2, h3, h4⟩)
    (Cert.ReferenceIdeal.Value.run (F := Ideal) m g)

/-- From equal arguments the idealized kernel and the reference end with equal results, all three of them. -/
theorem results : Cert.algebraic_KernelIdeal_ReferenceIdeal (hKernelIdeal := Cert.KernelIdeal.Gen.facts)
    (hReferenceIdeal := Cert.ReferenceIdeal.Gen.facts) := by
  intro m g m' g' _ hargs
  refine ⟨_, _, _, Cert.KernelIdeal.Rounds.run m g, (θ_run Cert.ReferenceIdeal.defs _ _).mono (fun r h c => ?_) (run_reference m' g')⟩
  have ea : Cert.ReferenceIdeal.Rows.a (launchContents m' c) = Cert.KernelIdeal.Rounds.a m c :=
    funext fun i => congrArg Cert.RowMath.unit (funext fun k => congrFun (hargs c).1 (ix2 i k))
  have et : Cert.ReferenceIdeal.Rows.t (launchContents m' c) = Cert.KernelIdeal.Rounds.t m c :=
    funext fun i => congrArg Cert.RowMath.unit (funext fun k => congrFun (hargs c).2 (ix2 i k))
  have h' := h c
  rw [ea, et] at h'
  exact h'

/-- The certificate's claims. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  frame_reference,
  trivial, results⟩

end Cert.Proof

end
